-- ==== Defs.lean ====
def Pre_Kernel (m : (ℓ : Loc Cert.Kernel.nD Cert.Kernel.τ Cert.Kernel.sig) → Buf (Elt Bits) ℓ) : Prop :=
  True

def Pre_Kernel_unwrapped [hPre_unwrapped : Cert.Pre_unwrapped.Facts] (m : (ℓ : Loc Cert.Kernel.nD Cert.Kernel.τ Cert.Kernel.sig) → Buf (Elt Bits) ℓ) : Prop :=
  ∀ c : Dev Cert.Kernel.nD,
    (Cert.Pre_unwrapped.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_unwrapped [hPre_unwrapped : Cert.Pre_unwrapped.Facts] (m : (ℓ : Loc Cert.KernelIdeal.nD Cert.KernelIdeal.τ Cert.KernelIdeal.sig) → Buf (Elt Ideal) ℓ) : Prop :=
  ∀ c : Dev Cert.KernelIdeal.nD,
    (Cert.Pre_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unwrapped [hPre_unwrapped : Cert.Pre_unwrapped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_unwrapped [hPre_unwrapped : Cert.Pre_unwrapped.Facts] (m : (ℓ : Loc Cert.Reference.nD Cert.Reference.τ Cert.Reference.sig) → Buf (Elt Bits) ℓ) : Prop :=
  ∀ c : Dev Cert.Reference.nD,
    (Cert.Pre_unwrapped.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_unwrapped [hKernel : Cert.Kernel.Facts] [hPre_unwrapped : Cert.Pre_unwrapped.Facts] : Prop :=
  ∀ (m : (ℓ : Loc Cert.Kernel.nD Cert.Kernel.τ Cert.Kernel.sig) → Buf (Elt Bits) ℓ) (g : Dev Cert.Kernel.nD → PrngReg), Pre_Kernel_unwrapped m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unwrapped [hKernelIdeal : Cert.KernelIdeal.Facts] [hPre_unwrapped : Cert.Pre_unwrapped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unwrapped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unwrapped [hReferenceIdeal : Cert.ReferenceIdeal.Facts] [hPre_unwrapped : Cert.Pre_unwrapped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unwrapped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_unwrapped [hReference : Cert.Reference.Facts] [hPre_unwrapped : Cert.Pre_unwrapped.Facts] : Prop :=
  ∀ (m : (ℓ : Loc Cert.Reference.nD Cert.Reference.τ Cert.Reference.sig) → Buf (Elt Bits) ℓ) (g : Dev Cert.Reference.nD → PrngReg), Pre_Reference_unwrapped m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_unwrapped [hKernelIdeal : Cert.KernelIdeal.Facts] [hReferenceIdeal : Cert.ReferenceIdeal.Facts] [hPre_unwrapped : Cert.Pre_unwrapped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unwrapped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_unwrapped [hKernel : Cert.Kernel.Facts] [hReference : Cert.Reference.Facts] [hPre_unwrapped : Cert.Pre_unwrapped.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_unwrapped m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v10)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_unwrapped : Cert.Pre_unwrapped.Facts),
    quiescent_Kernel (hKernel := hKernel)
    ∧ quiescent_Kernel_pre_unwrapped (hKernel := hKernel) (hPre_unwrapped := hPre_unwrapped)
    ∧ quiescent_KernelIdeal (hKernelIdeal := hKernelIdeal)
    ∧ quiescent_KernelIdeal_pre_unwrapped (hKernelIdeal := hKernelIdeal) (hPre_unwrapped := hPre_unwrapped)
    ∧ quiescent_ReferenceIdeal (hReferenceIdeal := hReferenceIdeal)
    ∧ quiescent_ReferenceIdeal_pre_unwrapped (hReferenceIdeal := hReferenceIdeal) (hPre_unwrapped := hPre_unwrapped)
    ∧ quiescent_Reference (hReference := hReference)
    ∧ quiescent_Reference_pre_unwrapped (hReference := hReference) (hPre_unwrapped := hPre_unwrapped)
    ∧ preserves_Kernel_KernelIdeal
    ∧ algebraic_KernelIdeal_ReferenceIdeal_pre_unwrapped (hKernelIdeal := hKernelIdeal) (hReferenceIdeal := hReferenceIdeal) (hPre_unwrapped := hPre_unwrapped)
    ∧ bitexact_Kernel_Reference_pre_unwrapped (hKernel := hKernel) (hReference := hReference) (hPre_unwrapped := hPre_unwrapped)
-- ==== Pre_unwrapped.lean ====
abbrev S200 : Shape := ⟨1, ![200]⟩
abbrev S_ : Shape := ⟨0, ![]⟩

class Facts : Prop where
  bcast_S_S200 : S_.BroadcastsInDim S200 (![] : Fin 0 → Fin S200.rank)
  reducesTo_S200_S_d0 : S200.ReducesTo [0] S_
  h_S_ : 0 < S_.numel

variable [Facts]

def fn {F : FTy → Type} [FloatOps F] (main_arg0 : IVec S200 32) (main_arg1 : FVec F S200 .f32) : IVec S_ 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 4294867296#32
  let main_v2 : IVec S200 32 := broadcastInDim S200 ![] bcast_S_S200 main_c_0
  let main_v3 : IVec S200 1 := cmpi .slt main_arg0 main_v2
  let main_v4 : IVec S200 1 := ori main_v1 main_v3
  let main_c_1 : IVec S_ 1 := constantI S_ 1 1#1
  let main_v5 : IVec S_ 1 := (fun x v => Host.reduce IntOp.andi x v reducesTo_S200_S_d0 h_S_) main_v4 main_c_1
  main_v5
-- ==== Kernel.lean ====
abbrev S200 : Shape := ⟨1, ![200]⟩
abbrev S200x1x1 : Shape := ⟨3, ![200, 1, 1]⟩
abbrev S200x1x128 : Shape := ⟨3, ![200, 1, 128]⟩
abbrev S12288 : Shape := ⟨1, ![12288]⟩
abbrev S1x1x12288 : Shape := ⟨3, ![1, 1, 12288]⟩
abbrev S_ : Shape := ⟨0, ![]⟩
abbrev S8x1x1 : Shape := ⟨3, ![8, 1, 1]⟩
abbrev S8x1x12288 : Shape := ⟨3, ![8, 1, 12288]⟩
abbrev S200x1x100000 : Shape := ⟨3, ![200, 1, 100000]⟩
abbrev S200x1x12288 : Shape := ⟨3, ![200, 1, 12288]⟩
abbrev S200x1 : Shape := ⟨2, ![200, 1]⟩
abbrev S200x12288 : Shape := ⟨2, ![200, 12288]⟩
abbrev S8x12288 : Shape := ⟨2, ![8, 12288]⟩

abbrev nBuf : Space → Nat
  | .hbm => 14
  | .vmem => 5
  | .smem => 0
  | _ => 0

abbrev bufTy : (tb : Table) → Fin (tcTables nBuf tb) → BufTy
  | .hbm, ⟨0, _⟩ => ⟨S200, .i32⟩
  | .hbm, ⟨1, _⟩ => ⟨S200, .f32⟩
  | .hbm, ⟨2, _⟩ => ⟨S200x1x1, .i32⟩
  | .hbm, ⟨3, _⟩ => ⟨S200x1x128, .i32⟩
  | .hbm, ⟨4, _⟩ => ⟨S200x1x1, .f32⟩
  | .hbm, ⟨5, _⟩ => ⟨S200x1x128, .f32⟩
  | .hbm, ⟨6, _⟩ => ⟨S12288, .i32⟩
  | .hbm, ⟨7, _⟩ => ⟨S1x1x12288, .i32⟩
  | .hbm, ⟨8, _⟩ => ⟨S_, .i32⟩
  | .hbm, ⟨9, _⟩ => ⟨S8x1x1, .i32⟩
  | .hbm, ⟨10, _⟩ => ⟨S8x1x12288, .i32⟩
  | .hbm, ⟨11, _⟩ => ⟨S8x1x12288, .i32⟩
  | .hbm, ⟨12, _⟩ => ⟨S8x1x12288, .i32⟩
  | .hbm, ⟨13, _⟩ => ⟨S200x1x100000, .f32⟩
  | .local _ .vmem, ⟨0, _⟩ => ⟨S200x1x128, .i32⟩
  | .local _ .vmem, ⟨1, _⟩ => ⟨S200x1x128, .f32⟩
  | .local _ .vmem, ⟨2, _⟩ => ⟨S8x1x12288, .i32⟩
  | .local _ .vmem, ⟨3, _⟩ => ⟨S200x1x12288, .f32⟩
  | .local _ .vmem, ⟨4, _⟩ => ⟨S200x1x12288, .f32⟩
  | _, _ => ⟨S200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S200x1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x12288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x1x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S200 : Shape := ⟨1, ![200]⟩
abbrev S_ : Shape := ⟨0, ![]⟩
abbrev S200x1x100000 : Shape := ⟨3, ![200, 1, 100000]⟩
abbrev S200x1 : Shape := ⟨2, ![200, 1]⟩
abbrev S200x3 : Shape := ⟨2, ![200, 3]⟩

abbrev nBuf : Space → Nat
  | .hbm => 27
  | .vmem => 0
  | .smem => 0
  | _ => 0

abbrev bufTy : (tb : Table) → Fin (tcTables nBuf tb) → BufTy
  | .hbm, ⟨0, _⟩ => ⟨S200, .i32⟩
  | .hbm, ⟨1, _⟩ => ⟨S200, .f32⟩
  | .hbm, ⟨2, _⟩ => ⟨S_, .f32⟩
  | .hbm, ⟨3, _⟩ => ⟨S200x1x100000, .f32⟩
  | .hbm, ⟨4, _⟩ => ⟨S200, .i32⟩
  | .hbm, ⟨5, _⟩ => ⟨S_, .i32⟩
  | .hbm, ⟨6, _⟩ => ⟨S200, .i32⟩
  | .hbm, ⟨7, _⟩ => ⟨S200, .i1⟩
  | .hbm, ⟨8, _⟩ => ⟨S_, .i32⟩
  | .hbm, ⟨9, _⟩ => ⟨S200, .i32⟩
  | .hbm, ⟨10, _⟩ => ⟨S200, .i32⟩
  | .hbm, ⟨11, _⟩ => ⟨S200, .i32⟩
  | .hbm, ⟨12, _⟩ => ⟨S_, .i32⟩
  | .hbm, ⟨13, _⟩ => ⟨S200, .i32⟩
  | .hbm, ⟨14, _⟩ => ⟨S200, .i1⟩
  | .hbm, ⟨15, _⟩ => ⟨S_, .i32⟩
  | .hbm, ⟨16, _⟩ => ⟨S200, .i32⟩
  | .hbm, ⟨17, _⟩ => ⟨S200, .i32⟩
  | .hbm, ⟨18, _⟩ => ⟨S200, .i32⟩
  | .hbm, ⟨19, _⟩ => ⟨S_, .i32⟩
  | .hbm, ⟨20, _⟩ => ⟨S200, .i32⟩
  | .hbm, ⟨21, _⟩ => ⟨S200, .i32⟩
  | .hbm, ⟨22, _⟩ => ⟨S200x1, .i32⟩
  | .hbm, ⟨23, _⟩ => ⟨S200x1, .i32⟩
  | .hbm, ⟨24, _⟩ => ⟨S200x1, .i32⟩
  | .hbm, ⟨25, _⟩ => ⟨S200x3, .i32⟩
  | .hbm, ⟨26, _⟩ => ⟨S200x1x100000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.OneHot.lean ====
/- The mathematics of the one-hot rows, free of any program: the array both programs compute, the index arithmetic on
   32-bit words that makes a column block agree with it, and what one block of the kernel's body computes. -/
module

public import Idealize.ShloMosaic.Lib.PointwiseCore
public import Idealize.ShloMosaic.Lib.WordCmp
public import Idealize.ShloMosaic.Lib.Pipeline.Value

@[expose] public section

noncomputable section

namespace Cert.OneHot

open Idealize.ShloMosaic

/-- One entry for each token. -/
abbrev Row : Shape := ⟨1, ![200]⟩
/-- The result: one row of 100000 columns for each token. -/
abbrev Out : Shape := ⟨3, ![200, 1, 100000]⟩
abbrev Col3 : Shape := ⟨3, ![200, 1, 1]⟩
abbrev Col2 : Shape := ⟨2, ![200, 1]⟩
abbrev Lanes3 : Shape := ⟨3, ![8, 1, 12288]⟩
abbrev Lanes2 : Shape := ⟨2, ![8, 12288]⟩
abbrev Block2 : Shape := ⟨2, ![200, 12288]⟩
abbrev Block3 : Shape := ⟨3, ![200, 1, 12288]⟩

/-- The one-hot array: row `n` holds `val n` in the column that token `n`, read as a signed word, names, and `z` in
    every other column. A token that names no column leaves its row at `z`. -/
def bow {α : Type} (z : α) (tok : Row.Idx → BitVec 32) (val : Row.Idx → α) : Out.Idx → α := fun i =>
  if (tok (ix1 (i 0))).toInt = ((i 2).val : Int) then val (ix1 (i 0)) else z

/-- Lane `l` of column block `b` is column `b * 12288 + l`: the kernel's comparison of words, the token less the block's
    first column against the lane, holds exactly when the token read signed is that column. No bound on the token is
    needed: a difference that wraps around is no lane of a block inside the array. -/
theorem hit_iff (t : BitVec 32) (b l : ℕ) (h : b * 12288 + l < 100000) :
    t - BitVec.ofNat 32 b * 12288#32 = BitVec.ofNat 32 l ↔ t.toInt = ((b * 12288 + l : ℕ) : Int) := by
  have e : BitVec.ofNat 32 (b * 12288 + l) = BitVec.ofNat 32 b * 12288#32 + BitVec.ofNat 32 l := by
    rw [BitVec.ofNat_add, BitVec.ofNat_mul]
  rw [← WordCmp.toInt_ofNat_of_lt (w := 32) (a := b * 12288 + l) (by omega), BitVec.toInt_inj, e]
  constructor
  · intro ht
    rw [← ht, BitVec.add_comm, BitVec.sub_add_cancel]
  · rintro rfl
    rw [BitVec.add_comm, BitVec.add_sub_cancel]

/-- Indexing from the end, `t + 100000` for a negative `t`, names the same columns as `t` itself if `t` is not one of
    -100000 … -1: such a word plus 100000 is negative still. -/
theorem wrap_toInt_iff (t : BitVec 32) (c : ℕ) (ht : 0 ≤ t.toInt ∨ t.toInt < -100000) :
    (if t.toInt < 0 then t + 100000#32 else t).toInt = (c : Int) ↔ t.toInt = (c : Int) := by
  split
  · have h := BitVec.toInt_add t 100000#32
    have lo := BitVec.le_toInt t
    rw [show (100000#32).toInt = 100000 from rfl] at h
    rw [Int.bmod_eq_of_le (by norm_num at lo ⊢; omega) (by norm_num; omega)] at h
    omega
  · rfl

/-- Twenty-five copies of an eight-row table one under another, at row `r`: the table's row `r % 8`. -/
theorem tile_apply {α : Type} (v : Lanes2.Idx → α) (h) (r : Fin 200) (l : Fin 12288) :
    concatenate Block2 0 (List.replicate 25 (⟨Lanes2, v⟩ : (s : Shape) × (s.Idx → α))) h (ix2 r l)
      = v (ix2 ⟨r.val % 8, Nat.mod_lt _ (by norm_num)⟩ l) :=
  concatenate_replicate_apply (t := Block2) (s₁ := Lanes2) 0 25 v h rfl (ix2 r l) (ix2 ⟨r.val % 8, Nat.mod_lt _ (by norm_num)⟩ l) rfl
    (fun b hb => match b with
      | ⟨0, _⟩ => absurd rfl hb
      | ⟨1, _⟩ => rfl)

variable {F : FTy → Type} [FloatOps F]

/-- What the body computes of a block whose first column is `b * 12288`: the tokens' column less that, broadcast along
    the lanes, compared with the lane numbers laid out in all rows; the values where they agree and zero elsewhere. -/
def blockOf (b : BitVec 32) (tok : IVec Col3 32) (val : FVec F Col3 .f32) (lane : IVec Lanes3 32)
    (h1 : Col3.ShapeCasts Col2) (h2 : Col2.ShapeCasts Col2) (h3 : Col2.Broadcasts Block2) (h4 : Lanes3.ShapeCasts Lanes2)
    (h5 : Shape.Concatenates ((List.replicate 25 (⟨Lanes2, shapeCast Lanes2 lane h4⟩ : (s : Shape) × (s.Idx → BitVec 32))).map (·.1)) Block2 0)
    (h6 : Block2.ShapeCasts Block3) : FVec F Block3 .f32 :=
  shapeCast Block3
    (select
      (cmpi .eq (subi (broadcastTo Block2 (shapeCast Col2 (shapeCast Col2 tok h1) h2) h3) (broadcast Block2 (Scalar.muli b 12288#32)))
        (concatenate Block2 0 (List.replicate 25 ⟨Lanes2, shapeCast Lanes2 lane h4⟩) h5))
      (broadcastTo Block2 (shapeCast Col2 (shapeCast Col2 val h1) h2) h3)
      (broadcast Block2 (Scalar.ofBits .f32 0x00000000#32 : F .f32))) h6

/-- The block read at row `r` and lane `l`, where the lane table holds the lane numbers: the row's value if the row's
    token, read signed, is column `b * 12288 + l`, else zero. -/
theorem blockOf_apply (b : ℕ) (tok : IVec Col3 32) (val : FVec F Col3 .f32) (lane : IVec Lanes3 32) (h1 h2 h3 h4 h5 h6)
    (hl : ∀ (s : Fin 8) (l : Fin 12288), lane (ix3 s 0 l) = BitVec.ofNat 32 l.val)
    (r : Fin 200) (l : Fin 12288) (h : b * 12288 + l.val < 100000) :
    blockOf (F := F) (BitVec.ofNat 32 b) tok val lane h1 h2 h3 h4 h5 h6 (ix3 r 0 l)
      = if (tok (ix3 r 0 0)).toInt = ((b * 12288 + l.val : ℕ) : Int) then val (ix3 r 0 0) else Scalar.ofBits .f32 0x00000000#32 := by
  have e := hit_iff (tok (ix3 r 0 0)) b l.val h
  unfold blockOf
  have ht := tile_apply (shapeCast Lanes2 lane h4) h5 r l
  generalize concatenate Block2 0 _ h5 = T at ht ⊢
  pointwise
  pointwise at ht
  rw [hl] at ht
  rw [ht, WordCmp.cmpi_eq_eq, WordCmp.select_decide]
  exact if_congr e rfl rfl

end Cert.OneHot

end
-- ==== Proof.KernelValue.lean ====
/- What the kernel leaves in its result array, at any float values: the one-hot array, for every token whatever. -/
module

public import proofs.«01_k».proof.Proof.OneHot
public import proofs.«01_k».proof.Proof.Gen.Kernel.Value
public import Idealize.ShloMosaic.Lib.Pipeline.ValueKit
public import Idealize.ShloMosaic.Lib.StableHlo.ReadAt

@[expose] public section

noncomputable section

namespace Cert.Kernel.Bow

open Idealize.ShloMosaic Cert.OneHot Cert.Kernel Cert.Kernel.Gen

variable {F : FTy → Type} [FloatOps F]
variable (m : (ℓ : Loc nD τ sig) → Buf (Elt F) ℓ) (c : Dev nD)

/-- The tokens laid along a third axis. -/
theorem tok_at (j : S200x1x128.Idx) : V m c main_v1 j = m ((c.tc : Thread nD τ).loc main_arg0) (ix1 (j 0)) := by
  unfold V; after_reads_at

/-- The values laid along a third axis. -/
theorem val_at (j : S200x1x128.Idx) : V m c main_v3 j = m ((c.tc : Thread nD τ).loc main_arg1) (ix1 (j 0)) := by
  unfold V; after_reads_at

/-- The lane table: lane numbers in each of its rows. -/
theorem lane_at (j : S8x1x12288.Idx) : V m c main_v9 j = BitVec.ofNat 32 (j 2).val := by
  unfold V; after_reads_at
  pointwise
  exact BitVec.mul_one _

/-- Point `t` of the grid is at coordinate `t`. -/
theorem coords_val : ∀ t : Fin cfg0.N, (grid0.coords t 0).val = t.val :=
  (by decide +kernel : ∀ t : Fin grid0.N, _)

/-- At point `t` the tokens' window holds the whole array. -/
theorem index0 : ∀ t : Fin cfg0.N, win0_0.index t = ![0, 0, 0] :=
  (by decide +kernel : ∀ t : Fin grid0.N, _)

/-- At point `t` the values' window holds the whole array. -/
theorem index1 : ∀ t : Fin cfg0.N, win0_1.index t = ![0, 0, 0] :=
  (by decide +kernel : ∀ t : Fin grid0.N, _)

/-- At point `t` the lane table's window holds the whole table. -/
theorem index2 : ∀ t : Fin cfg0.N, win0_2.index t = ![0, 0, 0] :=
  (by decide +kernel : ∀ t : Fin grid0.N, _)

/-- At point `t` the result's window is column block `t`. -/
theorem index3 : ∀ t : Fin cfg0.N, win0_3.index t = ![0, 0, t.val] :=
  (by decide +kernel : ∀ t : Fin grid0.N, _)

/-- The token of row `r`, as the body loads it at point `t`. -/
theorem tok_block (t : Fin cfg0.N) (r : Fin 200) :
    View.ld (iblk m c 0 t) r0_0 (ix3 r 0 0) = m ((c.tc : Thread nD τ).loc main_arg0) (ix1 r) := by
  show iblk m c 0 t (r0_0.emb (ix3 r 0 0)) = _
  blk_simp [iblk]
  rw [tok_at]
  refine congrArg (fun q => m ((c.tc : Thread nD τ).loc main_arg0) (ix1 q)) (Fin.ext ?_)
  blk_simp [index0]

/-- The value of row `r`, as the body loads it at point `t`. -/
theorem val_block (t : Fin cfg0.N) (r : Fin 200) :
    View.ld (iblk m c 1 t) r0_0 (ix3 r 0 0) = m ((c.tc : Thread nD τ).loc main_arg1) (ix1 r) := by
  show iblk m c 1 t (r0_0.emb (ix3 r 0 0)) = _
  blk_simp [iblk]
  rw [val_at]
  refine congrArg (fun q => m ((c.tc : Thread nD τ).loc main_arg1) (ix1 q)) (Fin.ext ?_)
  blk_simp [index1]

/-- The lane table, as the body loads it at point `t`. -/
theorem lane_block (t : Fin cfg0.N) (s : Fin 8) (l : Fin 12288) : iblk m c 2 t (ix3 s 0 l) = BitVec.ofNat 32 l.val := by
  blk_simp [iblk]
  rw [lane_at]
  refine congrArg (BitVec.ofNat 32) ?_
  blk_simp [index2]

/-- The result array after the last point is the one-hot array of the arguments. -/
theorem final : (dats m 0 c).arrAt 3 cfg0.N
    = bow (Scalar.ofBits .f32 0x00000000#32 : F .f32) (m ((c.tc : Thread nD τ).loc main_arg0)) (m ((c.tc : Thread nD τ).loc main_arg1)) := by
  refine (dats m 0 c).arrAt_eq_of_covers 3 _ (by decide +kernel) fun t hf y => ?_
  blk_simp
  rw [after0_3]; frame_out
  generalize hx : (win0 3).xinj (grid0.coords t) y = x
  generalize hi : ((View.whole main_v10).slice (win0_3.rect t)).emb y = i
  have e0 : (i 0).val = (x 0).val := by
    subst hx hi
    blk_simp [index3]
  have e2 : (i 2).val = t.val * 12288 + (x 2).val := by
    subst hx hi
    blk_simp [index3]
  have hb : t.val * 12288 + (x 2).val < 100000 := by
    rw [← e2]; exact (i 2).isLt
  clear hx hi
  obtain ⟨r, l, rfl⟩ : ∃ (r : Fin 200) (l : Fin 12288), x = ix3 r 0 l :=
    ⟨x 0, x 2, by rw [eq_ix3 x]; congr 1; exact Subsingleton.elim (α := Fin 1) _ _⟩
  refine (blockOf_apply (grid0.coords t 0).val (View.ld (iblk m c 0 t) r0_0) (View.ld (iblk m c 1 t) r0_0) (iblk m c 2 t)
    shapeCasts_S200x1x1_S200x1 shapeCasts_S200x1_S200x1 broadcasts_S200x1_S200x12288 shapeCasts_S8x1x12288_S8x12288
    concatenates_S8x12288_S8x12288_S8x12288_S8x12288_S8x12288_S8x12288_S8x12288_S8x12288_S8x12288_S8x12288_S8x12288_S8x12288_S8x12288_S8x12288_S8x12288_S8x12288_S8x12288_S8x12288_S8x12288_S8x12288_S8x12288_S8x12288_S8x12288_S8x12288_S8x12288_S200x12288_d0
    shapeCasts_S200x12288_S200x1x12288 (lane_block m c t) r l (by rw [coords_val]; exact hb)).trans ?_
  rw [tok_block, val_block, coords_val]
  unfold bow
  rw [e2, show i 0 = r from Fin.ext e0]
  rfl

/-- Every run of the kernel ends, with the one-hot array of the arguments in the result and the arguments as they were. -/
theorem run (ρ : Dev nD → PrngReg) :
    θ_run defs (onTc (τ := τ) (main (F := F))) ⟨m, fun _ => 0, ρ⟩ fun r => ∀ c : Dev nD,
      r.2.mem ((c.tc : Thread nD τ).loc main_v10)
          = bow (Scalar.ofBits .f32 0x00000000#32 : F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel.Value.run_blocks m ρ)

end Cert.Kernel.Bow

end
-- ==== Proof.IdealValue.lean ====
/- The same of the kernel's idealization: no operation was rewritten in it, so it is the kernel's own text, and what the
   kernel computes at any float values the idealization computes there too. -/
module

public import proofs.«01_k».proof.Proof.KernelValue
public import proofs.«01_k».proof.Proof.Gen.KernelIdeal

@[expose] public section

noncomputable section

namespace Cert.KernelIdeal.Bow

open Idealize.ShloMosaic Cert.OneHot Cert.KernelIdeal

variable {F : FTy → Type} [FloatOps F]

/-- The body table of the idealization is the kernel's: one label, running the same function on the same buffers. -/
theorem defs₀_eq : defs₀ (F := F) = Cert.Kernel.defs₀ (F := F) := by
  unfold Cert.KernelIdeal.defs₀ Cert.Kernel.defs₀
  refine congrArg Defs.onTc ?_
  funext l a
  match l, a with
  | 0, (_, _) => rfl

/-- So is the table with its pipeline. -/
theorem defs_eq : defs (F := F) = Cert.Kernel.defs (F := F) := by
  unfold Cert.KernelIdeal.defs Cert.Kernel.defs
  exact congrArg (Pipeline.defs (Cert.Kernel.pcfgs (F := F))) defs₀_eq

variable (m : (ℓ : Loc nD τ sig) → Buf (Elt F) ℓ)

/-- Every run of the idealization ends, with the one-hot array of the arguments in the result and the arguments as they
    were. -/
theorem run (ρ : Dev nD → PrngReg) :
    θ_run defs (onTc (τ := τ) (main (F := F))) ⟨m, fun _ => 0, ρ⟩ fun r => ∀ c : Dev nD,
      r.2.mem ((c.tc : Thread nD τ).loc main_v10)
          = bow (Scalar.ofBits .f32 0x00000000#32 : F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  rw [defs_eq]
  exact Cert.Kernel.Bow.run (F := F) m ρ

end Cert.KernelIdeal.Bow

end
-- ==== Proof.Scattered.lean ====
/- The reference's scatter, free of any program: one update for each token, landing at the cell its three index words
   name, is the one-hot array when the tokens are not counted from the end. -/
module

public import proofs.«01_k».proof.Proof.OneHot
public import Idealize.ShloMosaic.Lib.Routing.OpsSet
public import Idealize.ShloMosaic.Lib.Routing.OpsPair

@[expose] public section

noncomputable section

namespace Cert.OneHot

open Idealize.ShloMosaic

/-- Three index words for each token: row, middle axis, column. -/
abbrev Words : Shape := ⟨2, ![200, 3]⟩

/-- The scatter's dimension numbers: an update is a single number, placed by one index word for each axis. -/
def rowDims (h : ScatterDims.WF Out Words Row [] [0, 1, 2] [0, 1, 2] 1) : ScatterDims Out Words Row where
  updateWindowDims := []
  insertedWindowDims := [0, 1, 2]
  scatterDimsToOperandDims := [0, 1, 2]
  indexVectorDim := 1
  wf := h

/-- Update `n` lands at cell `ι` exactly when the token's three index words, read signed, are `ι`'s coordinates. -/
theorem rowDims_lands (h) (n : Fin 200) (idx : IVec Words 32) (ι : Out.Idx) :
    (rowDims h).resultIdx? (ix1 n) idx = some ι ↔ ∀ a : Fin 3, (idx (ix2 n a)).toInt = ((ι a).val : Int) := by
  rw [Routing.resultIdx?_eq_some]
  refine forall_congr' fun a => ?_
  have hm : a ∈ (rowDims h).scatterDimsToOperandDims := by
    show a ∈ ([0, 1, 2] : List (Fin 3))
    fin_cases a <;> decide
  have hw : (rowDims h).window (ix1 n) a = 0 := by
    unfold ScatterDims.window
    rw [dif_neg fun hk => (of_decide_eq_true (List.mem_filter.1 hk).2) (by show a ∈ ([0, 1, 2] : List (Fin 3)); fin_cases a <;> decide)]
  have hs : (rowDims h).siIdx (ix1 n) ⟨(rowDims h).scatterDimsToOperandDims.idxOf a, List.idxOf_lt_length_iff.2 hm⟩ = ix2 n a := by
    funext b
    apply Fin.ext
    match b with
    | ⟨0, _⟩ => rfl
    | ⟨1, _⟩ =>
      show List.idxOf a ([0, 1, 2] : List (Fin 3)) = a.val
      fin_cases a <;> rfl
  unfold ScatterDims.start
  rw [dif_pos hm, hs, hw]
  simp

/-- Scattering the values into an array of `z`, where a token's index words are its row, zero and its column counted from
    the end if negative, is the one-hot array, if no token is one of -100000 … -1. -/
theorem scatter_eq_bow {α : Type} (h) (z : α) (idx : IVec Words 32) (tok : IVec Row 32) (val : Row.Idx → α)
    (h0 : ∀ n : Fin 200, idx (ix2 n 0) = BitVec.ofNat 32 n.val) (h1 : ∀ n : Fin 200, idx (ix2 n 1) = 0#32)
    (h2 : ∀ n : Fin 200, idx (ix2 n 2) = if (tok (ix1 n)).toInt < 0 then tok (ix1 n) + 100000#32 else tok (ix1 n))
    (ht : ∀ n : Fin 200, 0 ≤ (tok (ix1 n)).toInt ∨ (tok (ix1 n)).toInt < -100000) :
    Host.scatter (rowDims h) (fun _ b => b) (fun _ => z) idx val = bow z tok val := by
  funext ι
  have e : ∀ k : Row.Idx, (rowDims h).resultIdx? k idx = some ι ↔ k 0 = ι 0 ∧ (tok (ix1 (k 0))).toInt = ((ι 2).val : Int) := by
    intro k
    obtain ⟨n, rfl⟩ : ∃ n : Fin 200, k = ix1 n := ⟨k 0, eq_ix1 k⟩
    have hn : (ι 0).val < 200 := (ι 0).isLt
    have hz : (ι 1).val < 1 := (ι 1).isLt
    rw [rowDims_lands, Fin.forall_fin_succ, Fin.forall_fin_succ, Fin.forall_fin_one]
    show (idx (ix2 n 0)).toInt = _ ∧ (idx (ix2 n 1)).toInt = _ ∧ (idx (ix2 n 2)).toInt = _ ↔ n = ι 0 ∧ (tok (ix1 n)).toInt = _
    rw [h0, h1, h2, wrap_toInt_iff _ _ (ht n), WordCmp.toInt_ofNat_of_lt (by omega)]
    refine and_congr (Nat.cast_inj.trans Fin.ext_iff.symm) (and_iff_right ?_)
    show (0 : Int) = ((ι 1).val : Int)
    omega
  unfold bow
  split
  · exact Routing.scatter_set_hit _ _ _ _ _ _ (fun k hk => by rw [eq_ix1 k, ((e k).1 hk).1]) (ix1 (ι 0)) ((e _).2 ⟨rfl, by assumption⟩)
  · rename_i hne
    exact Routing.scatter_set_miss _ _ _ _ _ fun k hk => hne (((e k).1 hk).1 ▸ ((e k).1 hk).2)

end Cert.OneHot

end
-- ==== Proof.ReferenceValue.lean ====
/- What the reference and its idealization leave in their result array, at any float values: the one-hot array, where no
   token is counted from the end. -/
module

public import proofs.«01_k».proof.Proof.Scattered
public import proofs.«01_k».proof.Proof.Gen.Reference.Run
public import proofs.«01_k».proof.Proof.Gen.ReferenceIdeal
public import Idealize.ShloMosaic.Lib.PointwiseCore

@[expose] public section

noncomputable section

namespace Cert.OneHot

open Idealize.ShloMosaic

/-- No token is one of -100000 … -1, the words that index a row of 100000 columns from its end. -/
def Unwrapped (tok : IVec Row 32) : Prop := ∀ n : Fin 200, 0 ≤ (tok (ix1 n)).toInt ∨ (tok (ix1 n)).toInt < -100000

end Cert.OneHot

namespace Cert.Reference.Bow

open Idealize.ShloMosaic Cert.OneHot Cert.Reference Cert.Reference.Gen

variable {F : FTy → Type} [FloatOps F]
variable (m : (ℓ : Loc nD τ sig) → Buf (Elt F) ℓ)

/-- Every run of the reference ends, with the one-hot array of the arguments in the result and the arguments as they
    were, if no token is counted from the end. -/
theorem run (ρ : Dev nD → PrngReg) (h : ∀ c : Dev nD, Unwrapped (m ((c.tc : Thread nD τ).loc main_arg0))) :
    θ_run defs (onTc (τ := τ) (main (F := F))) ⟨m, fun _ => 0, ρ⟩ fun r => ∀ c : Dev nD,
      r.2.mem ((c.tc : Thread nD τ).loc main_v18)
          = bow (Scalar.ofBits .f32 0x00000000#32 : F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ hr c => ⟨(hr c).1.trans ?_, (hr c).2⟩) (Cert.Reference.Value.run m ρ)
  have hz : (broadcastInDim S200x1x100000 ![] bcast_S_S200x1x100000 (constant S_ .f32 0x00000000#32) : FVec F S200x1x100000 .f32)
      = fun _ => Scalar.ofBits .f32 0x00000000#32 := by
    funext i; pointwise
  rw [hz]
  refine scatter_eq_bow _ _ _ _ _ (fun n => ?_) (fun n => ?_) (fun n => ?_) (h c)
  · pointwise
    have hn := n.isLt
    rw [WordCmp.cmpi_slt_eq, WordCmp.select_decide, WordCmp.toInt_ofNat_of_lt (by omega), if_neg (by show ¬((n.val : Int) < 0); omega)]
  · pointwise
    rfl
  · pointwise
    rw [WordCmp.cmpi_slt_eq, WordCmp.select_decide]
    rfl

end Cert.Reference.Bow

namespace Cert.ReferenceIdeal.Bow

open Idealize.ShloMosaic Cert.OneHot Cert.ReferenceIdeal

variable {F : FTy → Type} [FloatOps F]
variable (m : (ℓ : Loc nD τ sig) → Buf (Elt F) ℓ)

/-- The same of the reference's idealization, which is the reference's own text. -/
theorem run (ρ : Dev nD → PrngReg) (h : ∀ c : Dev nD, Unwrapped (m ((c.tc : Thread nD τ).loc main_arg0))) :
    θ_run defs (onTc (τ := τ) (main (F := F))) ⟨m, fun _ => 0, ρ⟩ fun r => ∀ c : Dev nD,
      r.2.mem ((c.tc : Thread nD τ).loc main_v18)
          = bow (Scalar.ofBits .f32 0x00000000#32 : F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference.Bow.run (F := F) m ρ h

end Cert.ReferenceIdeal.Bow

end
-- ==== Proof.lean ====
/- The certificate of the one-hot kernel: every claim of `Cert.Claim`, from the frames that hold of each program and the
   one array that the kernel and the reference both compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel.Value
public import proofs.«01_k».proof.Proof.Gen.Reference.Run
public import proofs.«01_k».proof.Proof.Gen.Reference
public import proofs.«01_k».proof.Proof.Gen.Pre_unwrapped
public import proofs.«01_k».proof.Proof.IdealValue
public import proofs.«01_k».proof.Proof.ReferenceValue
public import Idealize.ShloMosaic.Lib.Quiescent
public import Idealize.ShloMosaic.Lib.ReduceAll
public import Idealize.ShloMosaic.Adequacy
public import Idealize.ShloMosaic.Init

@[expose] public section

noncomputable section

namespace Cert.Proof

open Idealize.ShloMosaic Idealize.SL.Sem Cert.OneHot

/-- The precondition, read back: where it evaluates to all ones, no token is one of -100000 … -1. -/
theorem unwrapped_of_pre {F : FTy → Type} [FloatOps F] (tok : IVec Row 32) (val : FVec F Row .f32)
    (h : Cert.Pre_unwrapped.fn (F := F) tok val = fun _ => 1#1) : Unwrapped tok := by
  intro n
  have e := Host.reduce_andi_all _ _ _ _ ix0 (congrFun h ix0) (ix1 n)
  pointwise at e
  exact (IntOp.ori_eq_one.1 e).imp IntOp.cmpi_sge.1 IntOp.cmpi_slt.1

/-- Every run of the reference ends with its arguments as they were and all counters at zero. -/
theorem frame_reference : Cert.quiescent_Reference := fun m ρ _ =>
  (θ_run Cert.Reference.defs _ _).mono
    (fun r h => ⟨fun c => (h c).2, sem_eq_zero_of_no_sems (by decide) r.2⟩) (Cert.Reference.Value.run m ρ)

/-- The same of the reference's idealization. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- At the extended reals, the idealized kernel and reference end with the same array, the one-hot array of the arguments,
    where no token is counted from the end. -/
theorem algebraic : Cert.algebraic_KernelIdeal_ReferenceIdeal_pre_unwrapped := fun m ρ m' ρ' hpre hm =>
  ⟨fun c => bow (Scalar.ofBits .f32 0x00000000#32 : Ideal .f32) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Bow.run m ρ,
    (θ_run Cert.ReferenceIdeal.defs _ _).mono (fun r h c => ⟨(h c).1.trans (by rw [(hm c).1, (hm c).2]), (h c).2⟩)
      (Cert.ReferenceIdeal.Bow.run m' ρ' fun c => by rw [(hm c).1]; exact unwrapped_of_pre _ _ (hpre c))⟩

/-- At the machine's own floats, kernel and reference end with the same bits, where no token is counted from the end. -/
theorem bitexact : Cert.bitexact_Kernel_Reference_pre_unwrapped := fun m ρ m' ρ' hpre hm =>
  ⟨fun c => bow (Scalar.ofBits .f32 0x00000000#32 : Bits .f32) (m ((c.tc : Thread Cert.Kernel.nD Cert.Kernel.τ).loc Cert.Kernel.main_arg0))
      (m ((c.tc : Thread Cert.Kernel.nD Cert.Kernel.τ).loc Cert.Kernel.main_arg1)),
    Cert.Kernel.Bow.run m ρ,
    (θ_run Cert.Reference.defs _ _).mono (fun r h c => ⟨(h c).1.trans (by rw [(hm c).1, (hm c).2]), (h c).2⟩)
      (Cert.Reference.Bow.run m' ρ' fun c => by rw [(hm c).1]; exact unwrapped_of_pre _ _ (hpre c))⟩

/-- Everything the certificate claims. -/
theorem claim : Cert.Claim :=
  ⟨Cert.Kernel.Gen.facts, Cert.KernelIdeal.Gen.facts, Cert.ReferenceIdeal.Gen.facts, Cert.Reference.Gen.facts, Cert.Pre_unwrapped.Gen.facts,
    fun m ρ _ => Cert.Kernel.Gen.frame m ρ, fun m ρ _ => Cert.Kernel.Gen.frame m ρ,
    fun m ρ _ => Cert.KernelIdeal.Gen.frame m ρ, fun m ρ _ => Cert.KernelIdeal.Gen.frame m ρ,
    frame_referenceIdeal, fun m ρ _ => frame_referenceIdeal m ρ trivial,
    frame_reference, fun m ρ _ => frame_reference m ρ trivial,
    trivial, algebraic, bitexact⟩

end Cert.Proof

end
